-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S16384x5 : Shape := ⟨2, ![16384, 5]⟩
abbrev S1000000x6 : Shape := ⟨2, ![1000000, 6]⟩
abbrev S8x3 : Shape := ⟨2, ![8, 3]⟩
abbrev S64x3 : Shape := ⟨2, ![64, 3]⟩
abbrev S512x3 : Shape := ⟨2, ![512, 3]⟩
abbrev S7x3 : Shape := ⟨2, ![7, 3]⟩
abbrev S1064x23 : Shape := ⟨2, ![1064, 23]⟩
abbrev S1064 : Shape := ⟨1, ![1064]⟩
abbrev S1064x1064 : Shape := ⟨2, ![1064, 1064]⟩
abbrev S24x1064 : Shape := ⟨2, ![24, 1064]⟩
abbrev S24 : Shape := ⟨1, ![24]⟩
abbrev S_ : Shape := ⟨0, ![]⟩

class Facts : Prop where
  bcast_S_S16384x5 : S_.BroadcastsInDim S16384x5 (![] : Fin 0 → Fin S16384x5.rank)
  reducesTo_S16384x5_S_d0_1 : S16384x5.ReducesTo [0, 1] S_
  h_S_ : 0 < S_.numel

variable [Facts]

def fn {F : FTy → Type} [FloatOps F] (main_arg0 : FVec F S16384x5 .f32) (main_arg1 : IVec S16384x5 32) (main_arg2 : FVec F S1000000x6 .f32) (main_arg3 : FVec F S8x3 .f32) (main_arg4 : FVec F S64x3 .f32) (main_arg5 : FVec F S512x3 .f32) (main_arg6 : FVec F S7x3 .f32) (main_arg7 : FVec F S1064x23 .f32) (main_arg8 : FVec F S1064 .f32) (main_arg9 : FVec F S1064x1064 .f32) (main_arg10 : FVec F S1064 .f32) (main_arg11 : FVec F S24x1064 .f32) (main_arg12 : FVec F S24 .f32) : IVec S_ 1 :=
  let main_c : IVec S_ 32 := constantI S_ 32 0#32
  let main_v0 : IVec S16384x5 32 := broadcastInDim S16384x5 ![] bcast_S_S16384x5 main_c
  let main_v1 : IVec S16384x5 1 := cmpi .sge main_arg1 main_v0
  let main_c_0 : IVec S_ 32 := constantI S_ 32 7#32
  let main_v2 : IVec S16384x5 32 := broadcastInDim S16384x5 ![] bcast_S_S16384x5 main_c_0
  let main_v3 : IVec S16384x5 1 := cmpi .slt main_arg1 main_v2
  let main_v4 : IVec S16384x5 1 := andi main_v1 main_v3
  let main_c_1 : IVec S_ 1 := constantI S_ 1 1#1
  let main_v5 : IVec S_ 1 := (fun x v => Host.reduce IntOp.andi x v reducesTo_S16384x5_S_d0_1 h_S_) main_v4 main_c_1
  main_v5
-- ==== Kernel.lean ====
abbrev S16384x5 : Shape := ⟨2, ![16384, 5]⟩
abbrev S1000000x6 : Shape := ⟨2, ![1000000, 6]⟩
abbrev S8x3 : Shape := ⟨2, ![8, 3]⟩
abbrev S64x3 : Shape := ⟨2, ![64, 3]⟩
abbrev S512x3 : Shape := ⟨2, ![512, 3]⟩
abbrev S7x3 : Shape := ⟨2, ![7, 3]⟩
abbrev S1064x23 : Shape := ⟨2, ![1064, 23]⟩
abbrev S1064 : Shape := ⟨1, ![1064]⟩
abbrev S1064x1064 : Shape := ⟨2, ![1064, 1064]⟩
abbrev S24x1064 : Shape := ⟨2, ![24, 1064]⟩
abbrev S24 : Shape := ⟨1, ![24]⟩
abbrev S8x6 : Shape := ⟨2, ![8, 6]⟩
abbrev S_ : Shape := ⟨0, ![]⟩
abbrev S23x1064 : Shape := ⟨2, ![23, 1064]⟩
abbrev S5x1064 : Shape := ⟨2, ![5, 1064]⟩
abbrev S6x1064 : Shape := ⟨2, ![6, 1064]⟩
abbrev S3x1064 : Shape := ⟨2, ![3, 1064]⟩
abbrev S1064x24 : Shape := ⟨2, ![1064, 24]⟩
abbrev S1x1064 : Shape := ⟨2, ![1, 1064]⟩
abbrev S1x24 : Shape := ⟨2, ![1, 24]⟩
abbrev S16384x24 : Shape := ⟨2, ![16384, 24]⟩
abbrev S1024x5 : Shape := ⟨2, ![1024, 5]⟩
abbrev S1024x24 : Shape := ⟨2, ![1024, 24]⟩
abbrev S1024x1064 : Shape := ⟨2, ![1024, 1064]⟩
abbrev S1024x8 : Shape := ⟨2, ![1024, 8]⟩
abbrev S1024x1 : Shape := ⟨2, ![1024, 1]⟩
abbrev S8x1064 : Shape := ⟨2, ![8, 1064]⟩

abbrev nBuf : Space → Nat
  | .hbm => 34
  | .vmem => 22
  | .smem => 0
  | _ => 0

abbrev bufTy : (tb : Table) → Fin (tcTables nBuf tb) → BufTy
  | .hbm, ⟨0, _⟩ => ⟨S16384x5, .f32⟩
  | .hbm, ⟨1, _⟩ => ⟨S16384x5, .i32⟩
  | .hbm, ⟨2, _⟩ => ⟨S1000000x6, .f32⟩
  | .hbm, ⟨3, _⟩ => ⟨S8x3, .f32⟩
  | .hbm, ⟨4, _⟩ => ⟨S64x3, .f32⟩
  | .hbm, ⟨5, _⟩ => ⟨S512x3, .f32⟩
  | .hbm, ⟨6, _⟩ => ⟨S7x3, .f32⟩
  | .hbm, ⟨7, _⟩ => ⟨S1064x23, .f32⟩
  | .hbm, ⟨8, _⟩ => ⟨S1064, .f32⟩
  | .hbm, ⟨9, _⟩ => ⟨S1064x1064, .f32⟩
  | .hbm, ⟨10, _⟩ => ⟨S1064, .f32⟩
  | .hbm, ⟨11, _⟩ => ⟨S24x1064, .f32⟩
  | .hbm, ⟨12, _⟩ => ⟨S24, .f32⟩
  | .hbm, ⟨13, _⟩ => ⟨S8x6, .f32⟩
  | .hbm, ⟨14, _⟩ => ⟨S8x3, .f32⟩
  | .hbm, ⟨15, _⟩ => ⟨S8x3, .f32⟩
  | .hbm, ⟨16, _⟩ => ⟨S_, .i32⟩
  | .hbm, ⟨17, _⟩ => ⟨S_, .f32⟩
  | .hbm, ⟨18, _⟩ => ⟨S8x3, .f32⟩
  | .hbm, ⟨19, _⟩ => ⟨S23x1064, .f32⟩
  | .hbm, ⟨20, _⟩ => ⟨S5x1064, .f32⟩
  | .hbm, ⟨21, _⟩ => ⟨S6x1064, .f32⟩
  | .hbm, ⟨22, _⟩ => ⟨S3x1064, .f32⟩
  | .hbm, ⟨23, _⟩ => ⟨S3x1064, .f32⟩
  | .hbm, ⟨24, _⟩ => ⟨S3x1064, .f32⟩
  | .hbm, ⟨25, _⟩ => ⟨S3x1064, .f32⟩
  | .hbm, ⟨26, _⟩ => ⟨S1064x1064, .f32⟩
  | .hbm, ⟨27, _⟩ => ⟨S1064x1064, .bf16⟩
  | .hbm, ⟨28, _⟩ => ⟨S1064x24, .f32⟩
  | .hbm, ⟨29, _⟩ => ⟨S1064x24, .bf16⟩
  | .hbm, ⟨30, _⟩ => ⟨S1x1064, .f32⟩
  | .hbm, ⟨31, _⟩ => ⟨S1x1064, .f32⟩
  | .hbm, ⟨32, _⟩ => ⟨S1x24, .f32⟩
  | .hbm, ⟨33, _⟩ => ⟨S16384x24, .f32⟩
  | .local _ .vmem, ⟨0, _⟩ => ⟨S1024x5, .f32⟩
  | .local _ .vmem, ⟨1, _⟩ => ⟨S1024x5, .f32⟩
  | .local _ .vmem, ⟨2, _⟩ => ⟨S1024x5, .i32⟩
  | .local _ .vmem, ⟨3, _⟩ => ⟨S1024x5, .i32⟩
  | .local _ .vmem, ⟨4, _⟩ => ⟨S8x6, .f32⟩
  | .local _ .vmem, ⟨5, _⟩ => ⟨S8x3, .f32⟩
  | .local _ .vmem, ⟨6, _⟩ => ⟨S8x3, .f32⟩
  | .local _ .vmem, ⟨7, _⟩ => ⟨S8x3, .f32⟩
  | .local _ .vmem, ⟨8, _⟩ => ⟨S8x3, .f32⟩
  | .local _ .vmem, ⟨9, _⟩ => ⟨S5x1064, .f32⟩
  | .local _ .vmem, ⟨10, _⟩ => ⟨S6x1064, .f32⟩
  | .local _ .vmem, ⟨11, _⟩ => ⟨S3x1064, .f32⟩
  | .local _ .vmem, ⟨12, _⟩ => ⟨S3x1064, .f32⟩
  | .local _ .vmem, ⟨13, _⟩ => ⟨S3x1064, .f32⟩
  | .local _ .vmem, ⟨14, _⟩ => ⟨S3x1064, .f32⟩
  | .local _ .vmem, ⟨15, _⟩ => ⟨S1x1064, .f32⟩
  | .local _ .vmem, ⟨16, _⟩ => ⟨S1064x1064, .bf16⟩
  | .local _ .vmem, ⟨17, _⟩ => ⟨S1x1064, .f32⟩
  | .local _ .vmem, ⟨18, _⟩ => ⟨S1064x24, .bf16⟩
  | .local _ .vmem, ⟨19, _⟩ => ⟨S1x24, .f32⟩
  | .local _ .vmem, ⟨20, _⟩ => ⟨S1024x24, .f32⟩
  | .local _ .vmem, ⟨21, _⟩ => ⟨S1024x24, .f32⟩
  | _, _ => ⟨S16384x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x5 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x1064 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x1064 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x1064 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x1064 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1064 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x1064 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1064 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1064x1064 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1064 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1064x24 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x24 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1024x24 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S16384x5 : Shape := ⟨2, ![16384, 5]⟩
abbrev S1000000x6 : Shape := ⟨2, ![1000000, 6]⟩
abbrev S8x3 : Shape := ⟨2, ![8, 3]⟩
abbrev S64x3 : Shape := ⟨2, ![64, 3]⟩
abbrev S512x3 : Shape := ⟨2, ![512, 3]⟩
abbrev S7x3 : Shape := ⟨2, ![7, 3]⟩
abbrev S1064x23 : Shape := ⟨2, ![1064, 23]⟩
abbrev S1064 : Shape := ⟨1, ![1064]⟩
abbrev S1064x1064 : Shape := ⟨2, ![1064, 1064]⟩
abbrev S24x1064 : Shape := ⟨2, ![24, 1064]⟩
abbrev S24 : Shape := ⟨1, ![24]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x6 : Shape := ⟨2, ![16384, 6]⟩
abbrev S16384x3 : Shape := ⟨2, ![16384, 3]⟩
abbrev S16384x18 : Shape := ⟨2, ![16384, 18]⟩
abbrev S16384x23 : Shape := ⟨2, ![16384, 23]⟩
abbrev S23x1064 : Shape := ⟨2, ![23, 1064]⟩
abbrev S16384x1064 : Shape := ⟨2, ![16384, 1064]⟩
abbrev S1x1064 : Shape := ⟨2, ![1, 1064]⟩
abbrev S1064x24 : Shape := ⟨2, ![1064, 24]⟩
abbrev S16384x24 : Shape := ⟨2, ![16384, 24]⟩
abbrev S1x24 : Shape := ⟨2, ![1, 24]⟩

abbrev nBuf : Space → Nat
  | .hbm => 172
  | .vmem => 0
  | .smem => 0
  | _ => 0

abbrev hbmTy0_0 (i : Nat) : BufTy := match i % 128 with
  | 0 => ⟨S16384x5, .f32⟩
  | 1 => ⟨S16384x5, .i32⟩
  | 2 => ⟨S1000000x6, .f32⟩
  | 3 => ⟨S8x3, .f32⟩
  | 4 => ⟨S64x3, .f32⟩
  | 5 => ⟨S512x3, .f32⟩
  | 6 => ⟨S7x3, .f32⟩
  | 7 => ⟨S1064x23, .f32⟩
  | 8 => ⟨S1064, .f32⟩
  | 9 => ⟨S1064x1064, .f32⟩
  | 10 => ⟨S1064, .f32⟩
  | 11 => ⟨S24x1064, .f32⟩
  | 12 => ⟨S24, .f32⟩
  | 13 => ⟨S16384x1, .i32⟩
  | 14 => ⟨S16384, .i32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S1, .i32⟩
  | 24 => ⟨S_, .i32⟩
  | 25 => ⟨S16384x1, .i32⟩
  | 26 => ⟨S16384x1, .i1⟩
  | 27 => ⟨S1x1, .i32⟩
  | 28 => ⟨S16384x1, .i32⟩
  | 29 => ⟨S16384x1, .i1⟩
  | 30 => ⟨S16384x1, .i1⟩
  | 31 => ⟨S_, .i1⟩
  | 32 => ⟨S16384, .i1⟩
  | 33 => ⟨S16384x6, .f32⟩
  | 34 => ⟨S16384x6, .i1⟩
  | 35 => ⟨S_, .f32⟩
  | 36 => ⟨S16384x6, .f32⟩
  | 37 => ⟨S16384x6, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x3, .f32⟩
  | 59 => ⟨S16384x3, .i1⟩
  | 60 => ⟨S_, .f32⟩
  | 61 => ⟨S16384x3, .f32⟩
  | 62 => ⟨S16384x3, .f32⟩
  | 63 => ⟨S16384x1, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384x3, .f32⟩
  | 84 => ⟨S16384x3, .i1⟩
  | 85 => ⟨S_, .f32⟩
  | 86 => ⟨S16384x3, .f32⟩
  | 87 => ⟨S16384x3, .f32⟩
  | 88 => ⟨S16384x1, .i32⟩
  | 89 => ⟨S16384, .i32⟩
  | 90 => ⟨S_, .i32⟩
  | 91 => ⟨S16384, .i32⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S1, .i32⟩
  | 99 => ⟨S_, .i32⟩
  | 100 => ⟨S16384x1, .i32⟩
  | 101 => ⟨S16384x1, .i1⟩
  | 102 => ⟨S1x1, .i32⟩
  | 103 => ⟨S16384x1, .i32⟩
  | 104 => ⟨S16384x1, .i1⟩
  | 105 => ⟨S16384x1, .i1⟩
  | 106 => ⟨S_, .i1⟩
  | 107 => ⟨S16384, .i1⟩
  | 108 => ⟨S16384x3, .f32⟩
  | 109 => ⟨S16384x3, .i1⟩
  | 110 => ⟨S_, .f32⟩
  | 111 => ⟨S16384x3, .f32⟩
  | 112 => ⟨S16384x3, .f32⟩
  | 113 => ⟨S16384x1, .i32⟩
  | 114 => ⟨S16384, .i32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S1, .i32⟩
  | 124 => ⟨S_, .i32⟩
  | 125 => ⟨S16384x1, .i32⟩
  | 126 => ⟨S16384x1, .i1⟩
  | 127 => ⟨S1x1, .i32⟩
  | _ => ⟨S16384x5, .f32⟩

abbrev hbmTy0_1 (i : Nat) : BufTy := match i % 128 with
  | 0 => ⟨S16384x1, .i32⟩
  | 1 => ⟨S16384x1, .i1⟩
  | 2 => ⟨S16384x1, .i1⟩
  | 3 => ⟨S_, .i1⟩
  | 4 => ⟨S16384, .i1⟩
  | 5 => ⟨S16384x3, .f32⟩
  | 6 => ⟨S16384x3, .i1⟩
  | 7 => ⟨S_, .f32⟩
  | 8 => ⟨S16384x3, .f32⟩
  | 9 => ⟨S16384x3, .f32⟩
  | 10 => ⟨S16384x18, .f32⟩
  | 11 => ⟨S16384x23, .f32⟩
  | 12 => ⟨S23x1064, .f32⟩
  | 13 => ⟨S16384x1064, .f32⟩
  | 14 => ⟨S1x1064, .f32⟩
  | 15 => ⟨S16384x1064, .f32⟩
  | 16 => ⟨S16384x1064, .f32⟩
  | 17 => ⟨S16384x1064, .f32⟩
  | 18 => ⟨S16384x1064, .f32⟩
  | 19 => ⟨S_, .f32⟩
  | 20 => ⟨S16384x1064, .f32⟩
  | 21 => ⟨S16384x1064, .f32⟩
  | 22 => ⟨S_, .f32⟩
  | 23 => ⟨S16384x1064, .f32⟩
  | 24 => ⟨S16384x1064, .f32⟩
  | 25 => ⟨S1064x1064, .f32⟩
  | 26 => ⟨S16384x1064, .f32⟩
  | 27 => ⟨S1x1064, .f32⟩
  | 28 => ⟨S16384x1064, .f32⟩
  | 29 => ⟨S16384x1064, .f32⟩
  | 30 => ⟨S16384x1064, .f32⟩
  | 31 => ⟨S16384x1064, .f32⟩
  | 32 => ⟨S_, .f32⟩
  | 33 => ⟨S16384x1064, .f32⟩
  | 34 => ⟨S16384x1064, .f32⟩
  | 35 => ⟨S_, .f32⟩
  | 36 => ⟨S16384x1064, .f32⟩
  | 37 => ⟨S16384x1064, .f32⟩
  | 38 => ⟨S1064x24, .f32⟩
  | 39 => ⟨S16384x24, .f32⟩
  | 40 => ⟨S1x24, .f32⟩
  | 41 => ⟨S16384x24, .f32⟩
  | 42 => ⟨S16384x24, .f32⟩
  | 43 => ⟨S16384x24, .f32⟩
  | _ => ⟨S16384x5, .f32⟩

abbrev hbmTy (i : Nat) : BufTy := match i / 128 with
  | 0 => hbmTy0_0 i
  | 1 => hbmTy0_1 i
  | _ => ⟨S16384x5, .f32⟩

abbrev bufTy : (tb : Table) → Fin (tcTables nBuf tb) → BufTy
  | .hbm, ⟨i, _⟩ => hbmTy i
  | _, _ => ⟨S16384x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v5 : Ref sig .tc := ⟨.hbm, 62, rfl⟩
abbrev main_v6 : Ref sig .tc := ⟨.hbm, 63, rfl⟩
abbrev main_v7 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v8 : Ref sig .tc := ⟨.hbm, 87, rfl⟩
abbrev main_v9 : Ref sig .tc := ⟨.hbm, 88, rfl⟩
abbrev main_v10 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v11 : Ref sig .tc := ⟨.hbm, 112, rfl⟩
abbrev main_v12 : Ref sig .tc := ⟨.hbm, 113, rfl⟩
abbrev main_v13 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v14 : Ref sig .tc := ⟨.hbm, 137, rfl⟩
abbrev main_v15 : Ref sig .tc := ⟨.hbm, 138, rfl⟩
abbrev main_v16 : Ref sig .tc := ⟨.hbm, 139, rfl⟩
abbrev main_v17 : Ref sig .tc := ⟨.hbm, 140, rfl⟩
abbrev main_v18 : Ref sig .tc := ⟨.hbm, 141, rfl⟩
abbrev main_v19 : Ref sig .tc := ⟨.hbm, 142, rfl⟩
abbrev main_v20 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_cst : Ref sig .tc := ⟨.hbm, 147, rfl⟩
abbrev main_v24 : Ref sig .tc := ⟨.hbm, 148, rfl⟩
abbrev main_v25 : Ref sig .tc := ⟨.hbm, 149, rfl⟩
abbrev main_cst_0 : Ref sig .tc := ⟨.hbm, 150, rfl⟩
abbrev main_v26 : Ref sig .tc := ⟨.hbm, 151, rfl⟩
abbrev main_v27 : Ref sig .tc := ⟨.hbm, 152, rfl⟩
abbrev main_v28 : Ref sig .tc := ⟨.hbm, 153, rfl⟩
abbrev main_v29 : Ref sig .tc := ⟨.hbm, 154, rfl⟩
abbrev main_v30 : Ref sig .tc := ⟨.hbm, 155, rfl⟩
abbrev main_v31 : Ref sig .tc := ⟨.hbm, 156, rfl⟩
abbrev main_v32 : Ref sig .tc := ⟨.hbm, 157, rfl⟩
abbrev main_v33 : Ref sig .tc := ⟨.hbm, 158, rfl⟩
abbrev main_v34 : Ref sig .tc := ⟨.hbm, 159, rfl⟩
abbrev main_cst_1 : Ref sig .tc := ⟨.hbm, 160, rfl⟩
abbrev main_v35 : Ref sig .tc := ⟨.hbm, 161, rfl⟩
abbrev main_v36 : Ref sig .tc := ⟨.hbm, 162, rfl⟩
abbrev main_cst_2 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩

abbrev nD : Nat := 1
abbrev τ : Topo := Topo.v7x

variable {F : FTy → Type} [FloatOps F]
-- ==== Proof.Range.lean ====
/- What the precondition says of the index array: every index is a number from 0 to 6. -/
module

public import proofs.«01_k».proof.Pre_indices_in_range
public import Idealize.ShloMosaic.Lib.ReduceAll
public import Idealize.ShloMosaic.Lib.Pointwise
public import Idealize.ShloMosaic.Lib.Affine

@[expose] public section

noncomputable section

namespace Cert.Mlp

open Idealize.ShloMosaic Cert.Pre_indices_in_range

/-- The shape relations the precondition states. -/
theorem range_facts : Cert.Pre_indices_in_range.Facts where
  bcast_S_S16384x5 := by decide
  reducesTo_S16384x5_S_d0_1 := by decide
  h_S_ := by decide

/-- A word that is at least 0 and below 7, both read as signed numbers, is below 7 as a natural number. -/
theorem small_of_signed (w : BitVec 32) (h0 : IntOp.cmpi .sge w 0#32 = 1#1) (h7 : IntOp.cmpi .slt w 7#32 = 1#1) :
    w.toNat < 7 := by
  have h0' : (0 : ℤ) ≤ w.toInt := IntOp.cmpi_sge.1 h0
  have h7' : w.toInt < 7 := IntOp.cmpi_slt.1 h7
  have hw := BitVec.toInt_eq_toNat_cond w
  have := w.isLt
  split at hw <;> omega

/-- The precondition read back: every entry of the index array is below 7. -/
theorem range_of_pre [Cert.Pre_indices_in_range.Facts] (a0 : FVec Ideal S16384x5 .f32) (xi : IVec S16384x5 32)
    (a2 : FVec Ideal S1000000x6 .f32) (a3 : FVec Ideal S8x3 .f32) (a4 : FVec Ideal S64x3 .f32) (a5 : FVec Ideal S512x3 .f32)
    (a6 : FVec Ideal S7x3 .f32) (a7 : FVec Ideal S1064x23 .f32) (a8 : FVec Ideal S1064 .f32)
    (a9 : FVec Ideal S1064x1064 .f32) (a10 : FVec Ideal S1064 .f32) (a11 : FVec Ideal S24x1064 .f32)
    (a12 : FVec Ideal S24 .f32) (h : fn a0 xi a2 a3 a4 a5 a6 a7 a8 a9 a10 a11 a12 = fun _ => 1#1) (r : Fin 16384)
    (k : Fin 5) : (xi (ix2 r k)).toNat < 7 := by
  haveI : Subsingleton S_.Idx := ⟨fun a b => funext fun i => i.elim0⟩
  have e := congrFun h (Shape.Idx.first Facts.h_S_)
  have := IntOp.andi_eq_one.1 (Host.reduce_andi_all _ _ _ _ _ e (ix2 r k))
  exact small_of_signed _ this.1 this.2

end Cert.Mlp

end
-- ==== Proof.Spec.lean ====
/- The network as a formula over coordinates, and the arithmetic that both programs need.

   One row of the network takes five continuous features and five embedding rows (one of six entries, four of three),
   multiplies the 23 entries by a weight matrix, adds a bias and takes the logistic function; a second layer of the same
   width does the same; a third layer of 24 outputs is followed by `exp(z) - 1`. The formulas here are over the extended
   reals, and name no array: a program's side of the equation says which entries it puts in. -/
module

public import Idealize.ShloMosaic.Lib.Pointwise
public import Idealize.ShloMosaic.Lib.IdealHost
public import Idealize.ShloMosaic.Lib.StableHlo.Predicate

@[expose] public section

noncomputable section

namespace Cert.Mlp

open Idealize.ShloMosaic

/-- One unit of the first layer before its logistic: the products of the continuous features and of the five embedding
    rows with the unit's weights, each group summed by itself, the groups and the bias added in order. -/
def unit1 (x : Fin 5 → EReal) (loc : Fin 6 → EReal) (dir cnt hwy dow : Fin 3 → EReal) (w : Fin 23 → EReal) (b : EReal) :
    EReal :=
  (∑ k : Fin 5, x k * w ⟨k.val, by omega⟩) + (∑ e : Fin 6, loc e * w ⟨5 + e.val, by omega⟩)
    + (∑ e : Fin 3, dir e * w ⟨11 + e.val, by omega⟩) + (∑ e : Fin 3, cnt e * w ⟨14 + e.val, by omega⟩)
    + (∑ e : Fin 3, hwy e * w ⟨17 + e.val, by omega⟩) + (∑ e : Fin 3, dow e * w ⟨20 + e.val, by omega⟩) + b

/-- The two layers after the first: from the first layer's units before their logistic to one output of the network. -/
def head (z : Fin 1064 → EReal) (w2 : Fin 1064 → Fin 1064 → EReal) (b2 : Fin 1064 → EReal) (w3 : Fin 1064 → EReal)
    (b3 : EReal) : EReal :=
  Ideal.exp ((∑ k : Fin 1064, Ideal.logistic ((∑ j : Fin 1064, Ideal.logistic (z j) * w2 k j) + b2 k) * w3 k) + b3) - 1

/-- The network's output `o` for row `r`, from the arguments: the row's continuous features, the row that each of its five
    indices names in that index's table, and the three layers' weights and biases. -/
def net (x : FVec Ideal ⟨2, ![16384, 5]⟩ .f32) (xi : IVec ⟨2, ![16384, 5]⟩ 32) (hi : ∀ r k, (xi (ix2 r k)).toNat < 7)
    (loc : FVec Ideal ⟨2, ![1000000, 6]⟩ .f32) (dir : FVec Ideal ⟨2, ![8, 3]⟩ .f32) (cnt : FVec Ideal ⟨2, ![64, 3]⟩ .f32)
    (hwy : FVec Ideal ⟨2, ![512, 3]⟩ .f32) (dow : FVec Ideal ⟨2, ![7, 3]⟩ .f32) (w1 : FVec Ideal ⟨2, ![1064, 23]⟩ .f32)
    (b1 : FVec Ideal ⟨1, ![1064]⟩ .f32) (w2 : FVec Ideal ⟨2, ![1064, 1064]⟩ .f32) (b2 : FVec Ideal ⟨1, ![1064]⟩ .f32)
    (w3 : FVec Ideal ⟨2, ![24, 1064]⟩ .f32) (b3 : FVec Ideal ⟨1, ![24]⟩ .f32) (r : Fin 16384) (o : Fin 24) : EReal :=
  head (fun j => unit1 (fun k => x (ix2 r k))
      (fun e => loc (ix2 ⟨(xi (ix2 r 0)).toNat, by have := hi r 0; omega⟩ e))
      (fun e => dir (ix2 ⟨(xi (ix2 r 1)).toNat, by have := hi r 1; omega⟩ e))
      (fun e => cnt (ix2 ⟨(xi (ix2 r 2)).toNat, by have := hi r 2; omega⟩ e))
      (fun e => hwy (ix2 ⟨(xi (ix2 r 3)).toNat, by have := hi r 3; omega⟩ e))
      (fun e => dow (ix2 ⟨(xi (ix2 r 4)).toNat, hi r 4⟩ e)) (fun k => w1 (ix2 j k)) (b1 (ix1 j)))
    (fun k j => w2 (ix2 k j)) (fun k => b2 (ix1 k)) (fun k => w3 (ix2 o k)) (b3 (ix1 o))

/-- Equal entries give equal first-layer units. -/
theorem unit1_congr {x x' : Fin 5 → EReal} {loc loc' : Fin 6 → EReal} {dir dir' cnt cnt' hwy hwy' dow dow' : Fin 3 → EReal}
    {w w' : Fin 23 → EReal} {b b' : EReal} (hx : ∀ k, x k = x' k) (hl : ∀ e, loc e = loc' e) (hd : ∀ e, dir e = dir' e)
    (hc : ∀ e, cnt e = cnt' e) (hh : ∀ e, hwy e = hwy' e) (hq : ∀ e, dow e = dow' e) (hw : ∀ k, w k = w' k) (hb : b = b') :
    unit1 x loc dir cnt hwy dow w b = unit1 x' loc' dir' cnt' hwy' dow' w' b' := by
  rw [funext hx, funext hl, funext hd, funext hc, funext hh, funext hq, funext hw, hb]

/-- Equal entries give equal outputs. -/
theorem head_congr {z z' : Fin 1064 → EReal} {w2 w2' : Fin 1064 → Fin 1064 → EReal} {b2 b2' w3 w3' : Fin 1064 → EReal}
    {b3 b3' : EReal} (hz : ∀ j, z j = z' j) (h2 : ∀ k j, w2 k j = w2' k j) (hb2 : ∀ k, b2 k = b2' k)
    (h3 : ∀ k, w3 k = w3' k) (hb3 : b3 = b3') : head z w2 b2 w3 b3 = head z' w2' b2' w3' b3' := by
  rw [funext hz, funext fun k => funext (h2 k), funext hb2, funext h3, hb3]

/-- A sum over the 23 inputs of the first layer, cut into the groups that `unit1` adds. -/
theorem sum_groups (f : Fin 23 → EReal) :
    (∑ k : Fin 23, f k) = (∑ k : Fin 5, f ⟨k.val, by omega⟩) + (∑ e : Fin 6, f ⟨5 + e.val, by omega⟩)
      + (∑ e : Fin 3, f ⟨11 + e.val, by omega⟩) + (∑ e : Fin 3, f ⟨14 + e.val, by omega⟩)
      + (∑ e : Fin 3, f ⟨17 + e.val, by omega⟩) + (∑ e : Fin 3, f ⟨20 + e.val, by omega⟩) := by
  simp only [Fin.sum_univ_succ, Fin.sum_univ_zero, add_zero, add_assoc]
  rfl

/-- A one-hot row times a table: the comparisons of a word with the eight row numbers, read as numbers, are 1 at the
    word's own row and 0 at the others, so the sum over the rows is the table's entry at that row. -/
theorem pick (w : BitVec 32) (hw : w.toNat < 8) (g : Fin 8 → EReal) :
    (∑ c : Fin 8, (FloatOps.sitofp (F := Ideal) .f32
        (BitVec.setWidth 32 (IntOp.cmpi .eq (BitVec.ofNat 32 c.val) w)) : EReal) * g c) = g ⟨w.toNat, hw⟩ := by
  rw [Finset.sum_eq_single (⟨w.toNat, hw⟩ : Fin 8)]
  · have h1 : IntOp.cmpi .eq (BitVec.ofNat 32 w.toNat) w = 1#1 := StableHlo.Predicate.cmpi_eq_iff.2 (by simp)
    rw [h1, show (FloatOps.sitofp (F := Ideal) .f32 (BitVec.setWidth 32 1#1) : EReal) = 1 from ?_, one_mul]
    show (((BitVec.setWidth 32 1#1).toInt : ℝ) : EReal) = 1
    simp
  · intro c _ hc
    have h0 : IntOp.cmpi .eq (BitVec.ofNat 32 c.val) w = 0#1 := by
      rcases BitVec.eq_zero_or_eq_one (IntOp.cmpi .eq (BitVec.ofNat 32 c.val) w) with h | h
      · exact h
      · refine absurd (Fin.ext ?_) hc
        have h' := congrArg BitVec.toNat (StableHlo.Predicate.cmpi_eq_iff.1 h)
        have := c.isLt
        simp only [BitVec.toNat_ofNat] at h'
        show c.val = w.toNat
        omega
    rw [h0, show (FloatOps.sitofp (F := Ideal) .f32 (BitVec.setWidth 32 0#1) : EReal) = 0 from ?_, zero_mul]
    show (((BitVec.setWidth 32 0#1).toInt : ℝ) : EReal) = 0
    simp
  · exact fun h => absurd (Finset.mem_univ _) h

end Cert.Mlp

end
-- ==== Proof.Block.lean ====
/- What one grid point of the kernel computes: its block of the result, entry by entry, from the blocks it loads. -/
module

public import proofs.«01_k».proof.Proof.Spec
public import proofs.«01_k».proof.Proof.Gen.KernelIdeal.Value
public import Idealize.ShloMosaic.Lib.Pipeline.ValueKit

@[expose] public section

set_option maxRecDepth 16384

noncomputable section

namespace Cert.Mlp

open Idealize.ShloMosaic Cert.KernelIdeal Cert.KernelIdeal.Gen

/-- The first layer's unit `j` of row `r` as the kernel forms it: each one-hot product has picked the row that its index
    names out of the table's product with its share of the weights. -/
theorem first_layer (x0 : Vec Ideal S1024x5 .f32) (x1 : Vec Ideal S1024x5 .i32) (x2 : Vec Ideal S8x6 .f32)
    (x3 x4 x5 x6 : Vec Ideal S8x3 .f32) (x7 : Vec Ideal S5x1064 .f32) (x8 : Vec Ideal S6x1064 .f32)
    (x9 x10 x11 x12 : Vec Ideal S3x1064 .f32) (x13 : Vec Ideal S1x1064 .f32) (w : Fin 23 → Fin 1064 → EReal)
    (h7 : ∀ k j, x7 (ix2 k j) = w ⟨k.val, by omega⟩ j) (h8 : ∀ e j, x8 (ix2 e j) = w ⟨5 + e.val, by omega⟩ j)
    (h9 : ∀ e j, x9 (ix2 e j) = w ⟨11 + e.val, by omega⟩ j) (h10 : ∀ e j, x10 (ix2 e j) = w ⟨14 + e.val, by omega⟩ j)
    (h11 : ∀ e j, x11 (ix2 e j) = w ⟨17 + e.val, by omega⟩ j) (h12 : ∀ e j, x12 (ix2 e j) = w ⟨20 + e.val, by omega⟩ j)
    (hi : ∀ r k, (x1 (ix2 r k)).toNat < 8) (r : Fin 1024) (j : Fin 1064) :
    k0_pay5 x1 (k0_pay2 x1 x0 x7 x2 x8 x3 x9) (k0_pay3 x1) (k0_pay4 x4) x10 x5 x11 x6 x12 x13 (ix2 r j)
      = Ideal.logistic (unit1 (fun k => x0 (ix2 r k)) (fun e => x2 (ix2 ⟨(x1 (ix2 r 0)).toNat, hi r 0⟩ e))
          (fun e => x3 (ix2 ⟨(x1 (ix2 r 1)).toNat, hi r 1⟩ e)) (fun e => x4 (ix2 ⟨(x1 (ix2 r 2)).toNat, hi r 2⟩ e))
          (fun e => x5 (ix2 ⟨(x1 (ix2 r 3)).toNat, hi r 3⟩ e)) (fun e => x6 (ix2 ⟨(x1 (ix2 r 4)).toNat, hi r 4⟩ e))
          (fun k => w k j) (x13 (ix2 0 j))) := by
  pointwise [k0_pay5, k0_pay2, k0_pay3, k0_pay4]
  rw [pick _ (hi r 0), pick _ (hi r 1), pick _ (hi r 2), pick _ (hi r 3), pick _ (hi r 4)]
  simp only [h7, h8, h9, h10, h11, h12]
  rfl

/-- One entry of the block that a grid point stores: the network's output `o` at the block's row `r`. -/
theorem block_entry (x0 : Vec Ideal S1024x5 .f32) (x1 : Vec Ideal S1024x5 .i32) (x2 : Vec Ideal S8x6 .f32)
    (x3 x4 x5 x6 : Vec Ideal S8x3 .f32) (x7 : Vec Ideal S5x1064 .f32) (x8 : Vec Ideal S6x1064 .f32)
    (x9 x10 x11 x12 : Vec Ideal S3x1064 .f32) (x13 : Vec Ideal S1x1064 .f32) (x14 : Vec Ideal S1064x1064 .bf16)
    (x15 : Vec Ideal S1x1064 .f32) (x16 : Vec Ideal S1064x24 .bf16) (x17 : Vec Ideal S1x24 .f32)
    (w : Fin 23 → Fin 1064 → EReal)
    (h7 : ∀ k j, x7 (ix2 k j) = w ⟨k.val, by omega⟩ j) (h8 : ∀ e j, x8 (ix2 e j) = w ⟨5 + e.val, by omega⟩ j)
    (h9 : ∀ e j, x9 (ix2 e j) = w ⟨11 + e.val, by omega⟩ j) (h10 : ∀ e j, x10 (ix2 e j) = w ⟨14 + e.val, by omega⟩ j)
    (h11 : ∀ e j, x11 (ix2 e j) = w ⟨17 + e.val, by omega⟩ j) (h12 : ∀ e j, x12 (ix2 e j) = w ⟨20 + e.val, by omega⟩ j)
    (hi : ∀ r k, (x1 (ix2 r k)).toNat < 8) (r : Fin 1024) (o : Fin 24) :
    out0_18 x0 x1 x2 x3 x4 x5 x6 x7 x8 x9 x10 x11 x12 x13 x14 x15 x16 x17 (ix2 r o)
      = head (fun j => unit1 (fun k => x0 (ix2 r k)) (fun e => x2 (ix2 ⟨(x1 (ix2 r 0)).toNat, hi r 0⟩ e))
          (fun e => x3 (ix2 ⟨(x1 (ix2 r 1)).toNat, hi r 1⟩ e)) (fun e => x4 (ix2 ⟨(x1 (ix2 r 2)).toNat, hi r 2⟩ e))
          (fun e => x5 (ix2 ⟨(x1 (ix2 r 3)).toNat, hi r 3⟩ e)) (fun e => x6 (ix2 ⟨(x1 (ix2 r 4)).toNat, hi r 4⟩ e))
          (fun k => w k j) (x13 (ix2 0 j)))
        (fun k j => x14 (ix2 j k)) (fun k => x15 (ix2 0 k)) (fun k => x16 (ix2 k o)) (x17 (ix2 0 o)) := by
  frame_out
  pointwise [k0_pay1, k0_pay6]
  simp only [first_layer x0 x1 x2 x3 x4 x5 x6 x7 x8 x9 x10 x11 x12 x13 w h7 h8 h9 h10 h11 h12 hi]
  rfl

end Cert.Mlp

end
-- ==== Proof.Windows.lean ====
/- What the kernel's windows show its body: the arrays that the program prepares before the launch (the first rows of each
   table, the transposed and cut weights, the biases as rows), and every window's block, entry by entry in terms of the
   arguments. -/
module

public import proofs.«01_k».proof.Proof.Spec
public import proofs.«01_k».proof.Proof.Gen.KernelIdeal.Value
public import Idealize.ShloMosaic.Lib.Pipeline.ValueKit

@[expose] public section

set_option maxRecDepth 16384

noncomputable section

namespace Cert.Mlp

open Idealize.ShloMosaic Cert.KernelIdeal Cert.KernelIdeal.Gen Idealize.ShloMosaic.TcCoe Idealize.SL.Sem

variable (m : (ℓ : Loc nD τ sig) → Buf (Elt Ideal) ℓ) (c : Dev nD)

/-! ## The prepared arrays -/

/-- The location table cut to its first eight rows. -/
theorem entry_loc (a : Fin 8) (e : Fin 6) :
    V m c main_v0 (ix2 a e) = m ((c : Thread nD τ).loc main_arg2) (ix2 ⟨a.val, by omega⟩ e) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The county table cut to its first eight rows. -/
theorem entry_cnt (a : Fin 8) (e : Fin 3) :
    V m c main_v1 (ix2 a e) = m ((c : Thread nD τ).loc main_arg4) (ix2 ⟨a.val, by omega⟩ e) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The highway table cut to its first eight rows. -/
theorem entry_hwy (a : Fin 8) (e : Fin 3) :
    V m c main_v2 (ix2 a e) = m ((c : Thread nD τ).loc main_arg5) (ix2 ⟨a.val, by omega⟩ e) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The day table padded to eight rows: its seven rows are kept. -/
theorem entry_dow (a : Fin 8) (ha : a.val < 7) (e : Fin 3) :
    V m c main_v3 (ix2 a e) = m ((c : Thread nD τ).loc main_arg6) (ix2 ⟨a.val, ha⟩ e) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise
  exact dif_pos ha

/-- The first layer's weights for the continuous features, transposed. -/
theorem entry_w1x (k : Fin 5) (j : Fin 1064) :
    V m c main_v5 (ix2 k j) = m ((c : Thread nD τ).loc main_arg7) (ix2 j ⟨k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's weights for the location entries, transposed. -/
theorem entry_w1loc (k : Fin 6) (j : Fin 1064) :
    V m c main_v6 (ix2 k j) = m ((c : Thread nD τ).loc main_arg7) (ix2 j ⟨5 + k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's weights for the direction entries, transposed. -/
theorem entry_w1dir (k : Fin 3) (j : Fin 1064) :
    V m c main_v7 (ix2 k j) = m ((c : Thread nD τ).loc main_arg7) (ix2 j ⟨11 + k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's weights for the county entries, transposed. -/
theorem entry_w1cnt (k : Fin 3) (j : Fin 1064) :
    V m c main_v8 (ix2 k j) = m ((c : Thread nD τ).loc main_arg7) (ix2 j ⟨14 + k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's weights for the highway entries, transposed. -/
theorem entry_w1hwy (k : Fin 3) (j : Fin 1064) :
    V m c main_v9 (ix2 k j) = m ((c : Thread nD τ).loc main_arg7) (ix2 j ⟨17 + k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's weights for the day entries, transposed. -/
theorem entry_w1dow (k : Fin 3) (j : Fin 1064) :
    V m c main_v10 (ix2 k j) = m ((c : Thread nD τ).loc main_arg7) (ix2 j ⟨20 + k.val, by omega⟩) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The second layer's weights, transposed (the narrower type keeps the values here). -/
theorem entry_w2 (j k : Fin 1064) :
    V m c main_v12 (ix2 j k) = m ((c : Thread nD τ).loc main_arg9) (ix2 k j) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The third layer's weights, transposed. -/
theorem entry_w3 (k : Fin 1064) (o : Fin 24) :
    V m c main_v14 (ix2 k o) = m ((c : Thread nD τ).loc main_arg11) (ix2 o k) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The first layer's bias as a row. -/
theorem entry_b1 (j : Fin 1064) :
    V m c main_v15 (ix2 0 j) = m ((c : Thread nD τ).loc main_arg8) (ix1 j) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The second layer's bias as a row. -/
theorem entry_b2 (j : Fin 1064) :
    V m c main_v16 (ix2 0 j) = m ((c : Thread nD τ).loc main_arg10) (ix1 j) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-- The third layer's bias as a row. -/
theorem entry_b3 (o : Fin 24) :
    V m c main_v17 (ix2 0 o) = m ((c : Thread nD τ).loc main_arg12) (ix1 o) := by
  simp only [V, hostOps0, hostOps0_1, hostOps0_2, List.flatten_cons, List.flatten_nil, List.append_nil, List.cons_append,
    List.nil_append, StableHlo.TRef.unary, StableHlo.TRef.binary, StableHlo.TRef.toBuf, StableHlo.TRef.ofBuf, cast_eq]
  entry_read
  pointwise

/-! ## The blocks -/

/-- Where every window stands at a grid point: the two inputs that are cut by rows and the result move with the point, the
    others stand still. -/
theorem index_facts : ∀ t : Fin grid0.N,
    (win0_0.index t = ![t.val, 0] ∧ win0_1.index t = ![t.val, 0] ∧ win0_18.index t = ![t.val, 0])
    ∧ (win0_2.index t = ![0, 0] ∧ win0_3.index t = ![0, 0] ∧ win0_4.index t = ![0, 0] ∧ win0_5.index t = ![0, 0])
    ∧ (win0_6.index t = ![0, 0] ∧ win0_7.index t = ![0, 0] ∧ win0_8.index t = ![0, 0] ∧ win0_9.index t = ![0, 0])
    ∧ (win0_10.index t = ![0, 0] ∧ win0_11.index t = ![0, 0] ∧ win0_12.index t = ![0, 0] ∧ win0_13.index t = ![0, 0])
    ∧ win0_14.index t = ![0, 0] ∧ win0_15.index t = ![0, 0] ∧ win0_16.index t = ![0, 0] ∧ win0_17.index t = ![0, 0] := by
  decide +kernel

/-- The row of an array that row `r` of the block of point `t` is. -/
abbrev rowOf (t : Fin cfg0.N) (r : Fin 1024) : Fin 16384 := ⟨1024 * t.val + r.val, by
  have h : t.val < 16 := t.isLt
  omega⟩

variable (t : Fin cfg0.N)

/-- The block of the continuous features at a point: that point's rows. -/
theorem block_x (r : Fin 1024) (k : Fin 5) :
    (iblk m c 0 t : Vec Ideal S1024x5 .f32) (ix2 r k) = m ((c : Thread nD τ).loc main_arg0) (ix2 (rowOf t r) k) := by
  blk_ext [iblk, (index_facts t).1.1]

/-- The block of the indices at a point: that point's rows. -/
theorem block_xi (r : Fin 1024) (k : Fin 5) :
    (iblk m c 1 t : Vec Ideal S1024x5 .i32) (ix2 r k) = m ((c : Thread nD τ).loc main_arg1) (ix2 (rowOf t r) k) := by
  blk_ext [iblk, (index_facts t).1.2.1]

/-- Window 2 shows its whole array at every point. -/
theorem block_2 (a : Fin 8) (b : Fin 6) :
    (iblk m c 2 t : Vec Ideal S8x6 .f32) (ix2 a b) = (V m c main_v0 : Vec Ideal S8x6 .f32) (ix2 a b) := by
  blk_ext [iblk, (index_facts t).2.1.1]

/-- Window 3 shows its whole array at every point. -/
theorem block_3 (a : Fin 8) (b : Fin 3) :
    (iblk m c 3 t : Vec Ideal S8x3 .f32) (ix2 a b) = (V m c main_arg3 : Vec Ideal S8x3 .f32) (ix2 a b) := by
  blk_ext [iblk, (index_facts t).2.1.2.1]

/-- Window 4 shows its whole array at every point. -/
theorem block_4 (a : Fin 8) (b : Fin 3) :
    (iblk m c 4 t : Vec Ideal S8x3 .f32) (ix2 a b) = (V m c main_v1 : Vec Ideal S8x3 .f32) (ix2 a b) := by
  blk_ext [iblk, (index_facts t).2.1.2.2.1]

/-- Window 5 shows its whole array at every point. -/
theorem block_5 (a : Fin 8) (b : Fin 3) :
    (iblk m c 5 t : Vec Ideal S8x3 .f32) (ix2 a b) = (V m c main_v2 : Vec Ideal S8x3 .f32) (ix2 a b) := by
  blk_ext [iblk, (index_facts t).2.1.2.2.2]

/-- Window 6 shows its whole array at every point. -/
theorem block_6 (a : Fin 8) (b : Fin 3) :
    (iblk m c 6 t : Vec Ideal S8x3 .f32) (ix2 a b) = (V m c main_v3 : Vec Ideal S8x3 .f32) (ix2 a b) := by
  blk_ext [iblk, (index_facts t).2.2.1.1]

/-- Window 7 shows its whole array at every point. -/
theorem block_7 (a : Fin 5) (b : Fin 1064) :
    (iblk m c 7 t : Vec Ideal S5x1064 .f32) (ix2 a b) = (V m c main_v5 : Vec Ideal S5x1064 .f32) (ix2 a b) := by
  blk_ext [iblk, (index_facts t).2.2.1.2.1]

/-- Window 8 shows its whole array at every point. -/
theorem block_8 (a : Fin 6) (b : Fin 1064) :
    (iblk m c 8 t : Vec Ideal S6x1064 .f32) (ix2 a b) = (V m c main_v6 : Vec Ideal S6x1064 .f32) (ix2 a b) := by
  blk_ext [iblk, (index_facts t).2.2.1.2.2.1]

/-- Window 9 shows its whole array at every point. -/
theorem block_9 (a : Fin 3) (b : Fin 1064) :
    (iblk m c 9 t : Vec Ideal S3x1064 .f32) (ix2 a b) = (V m c main_v7 : Vec Ideal S3x1064 .f32) (ix2 a b) := by
  blk_ext [iblk, (index_facts t).2.2.1.2.2.2]

/-- Window 10 shows its whole array at every point. -/
theorem block_10 (a : Fin 3) (b : Fin 1064) :
    (iblk m c 10 t : Vec Ideal S3x1064 .f32) (ix2 a b) = (V m c main_v8 : Vec Ideal S3x1064 .f32) (ix2 a b) := by
  blk_ext [iblk, (index_facts t).2.2.2.1.1]

/-- Window 11 shows its whole array at every point. -/
theorem block_11 (a : Fin 3) (b : Fin 1064) :
    (iblk m c 11 t : Vec Ideal S3x1064 .f32) (ix2 a b) = (V m c main_v9 : Vec Ideal S3x1064 .f32) (ix2 a b) := by
  blk_ext [iblk, (index_facts t).2.2.2.1.2.1]

/-- Window 12 shows its whole array at every point. -/
theorem block_12 (a : Fin 3) (b : Fin 1064) :
    (iblk m c 12 t : Vec Ideal S3x1064 .f32) (ix2 a b) = (V m c main_v10 : Vec Ideal S3x1064 .f32) (ix2 a b) := by
  blk_ext [iblk, (index_facts t).2.2.2.1.2.2.1]

/-- Window 13 shows its whole array at every point. -/
theorem block_13 (a : Fin 1) (b : Fin 1064) :
    (iblk m c 13 t : Vec Ideal S1x1064 .f32) (ix2 a b) = (V m c main_v15 : Vec Ideal S1x1064 .f32) (ix2 a b) := by
  blk_ext [iblk, (index_facts t).2.2.2.1.2.2.2]

/-- Window 14 shows its whole array at every point. -/
theorem block_14 (a : Fin 1064) (b : Fin 1064) :
    (iblk m c 14 t : Vec Ideal S1064x1064 .bf16) (ix2 a b) = (V m c main_v12 : Vec Ideal S1064x1064 .bf16) (ix2 a b) := by
  blk_ext [iblk, (index_facts t).2.2.2.2.1]

/-- Window 15 shows its whole array at every point. -/
theorem block_15 (a : Fin 1) (b : Fin 1064) :
    (iblk m c 15 t : Vec Ideal S1x1064 .f32) (ix2 a b) = (V m c main_v16 : Vec Ideal S1x1064 .f32) (ix2 a b) := by
  blk_ext [iblk, (index_facts t).2.2.2.2.2.1]

/-- Window 16 shows its whole array at every point. -/
theorem block_16 (a : Fin 1064) (b : Fin 24) :
    (iblk m c 16 t : Vec Ideal S1064x24 .bf16) (ix2 a b) = (V m c main_v14 : Vec Ideal S1064x24 .bf16) (ix2 a b) := by
  blk_ext [iblk, (index_facts t).2.2.2.2.2.2.1]

/-- Window 17 shows its whole array at every point. -/
theorem block_17 (a : Fin 1) (b : Fin 24) :
    (iblk m c 17 t : Vec Ideal S1x24 .f32) (ix2 a b) = (V m c main_v17 : Vec Ideal S1x24 .f32) (ix2 a b) := by
  blk_ext [iblk, (index_facts t).2.2.2.2.2.2.2]

/-! ## The tables' rows -/

/-- A row that the body reads in the location table's window is the row of that number in the argument. -/
theorem shown_loc (a : Fin 8) (n : Fin 1000000) (h : a.val = n.val) (e : Fin 6) :
    (iblk m c 2 t : Vec Ideal S8x6 .f32) (ix2 a e)
      = (m ((c : Thread nD τ).loc main_arg2) : FVec Ideal ⟨2, ![1000000, 6]⟩ .f32) (ix2 n e) := by
  refine ((block_2 m c t a e).trans (entry_loc m c a e)).trans ?_
  exact congrArg (fun k => (m ((c : Thread nD τ).loc main_arg2) : FVec Ideal ⟨2, ![1000000, 6]⟩ .f32) (ix2 k e)) (Fin.ext h)

/-- A row that the body reads in the direction table's window is the row of that number in the argument. -/
theorem shown_dir (a : Fin 8) (n : Fin 8) (h : a.val = n.val) (e : Fin 3) :
    (iblk m c 3 t : Vec Ideal S8x3 .f32) (ix2 a e)
      = (m ((c : Thread nD τ).loc main_arg3) : FVec Ideal ⟨2, ![8, 3]⟩ .f32) (ix2 n e) := by
  refine ((block_3 m c t a e).trans (congrFun (V_main_arg3 m c) _)).trans ?_
  exact congrArg (fun k => (m ((c : Thread nD τ).loc main_arg3) : FVec Ideal ⟨2, ![8, 3]⟩ .f32) (ix2 k e)) (Fin.ext h)

/-- A row that the body reads in the county table's window is the row of that number in the argument. -/
theorem shown_cnt (a : Fin 8) (n : Fin 64) (h : a.val = n.val) (e : Fin 3) :
    (iblk m c 4 t : Vec Ideal S8x3 .f32) (ix2 a e)
      = (m ((c : Thread nD τ).loc main_arg4) : FVec Ideal ⟨2, ![64, 3]⟩ .f32) (ix2 n e) := by
  refine ((block_4 m c t a e).trans (entry_cnt m c a e)).trans ?_
  exact congrArg (fun k => (m ((c : Thread nD τ).loc main_arg4) : FVec Ideal ⟨2, ![64, 3]⟩ .f32) (ix2 k e)) (Fin.ext h)

/-- A row that the body reads in the highway table's window is the row of that number in the argument. -/
theorem shown_hwy (a : Fin 8) (n : Fin 512) (h : a.val = n.val) (e : Fin 3) :
    (iblk m c 5 t : Vec Ideal S8x3 .f32) (ix2 a e)
      = (m ((c : Thread nD τ).loc main_arg5) : FVec Ideal ⟨2, ![512, 3]⟩ .f32) (ix2 n e) := by
  refine ((block_5 m c t a e).trans (entry_hwy m c a e)).trans ?_
  exact congrArg (fun k => (m ((c : Thread nD τ).loc main_arg5) : FVec Ideal ⟨2, ![512, 3]⟩ .f32) (ix2 k e)) (Fin.ext h)

/-- A row that the body reads in the day table's window is the row of that number in the argument. -/
theorem shown_dow (a : Fin 8) (n : Fin 7) (h : a.val = n.val) (e : Fin 3) :
    (iblk m c 6 t : Vec Ideal S8x3 .f32) (ix2 a e)
      = (m ((c : Thread nD τ).loc main_arg6) : FVec Ideal ⟨2, ![7, 3]⟩ .f32) (ix2 n e) := by
  refine ((block_6 m c t a e).trans (entry_dow m c a (by have := n.isLt; omega) e)).trans ?_
  exact congrArg (fun k => (m ((c : Thread nD τ).loc main_arg6) : FVec Ideal ⟨2, ![7, 3]⟩ .f32) (ix2 k e)) (Fin.ext h)

end Cert.Mlp

end
-- ==== Proof.Array.lean ====
/- The kernel's result array after a run: entry `(r, o)` is the network's output `o` for row `r`. -/
module

public import proofs.«01_k».proof.Proof.Block
public import proofs.«01_k».proof.Proof.Windows

@[expose] public section

set_option maxRecDepth 16384

noncomputable section

namespace Cert.Mlp

open Idealize.ShloMosaic Cert.KernelIdeal Cert.KernelIdeal.Gen Idealize.ShloMosaic.TcCoe Idealize.SL.Sem

variable (m : (ℓ : Loc nD τ sig) → Buf (Elt Ideal) ℓ) (c : Dev nD)

/-- What point `t` stores at row `r`, output `o` of its block is the network's output `o` for the array's row that this
    row of the block is. -/
theorem stored (hi : ∀ r k, ((m ((c : Thread nD τ).loc main_arg1) : IVec ⟨2, ![16384, 5]⟩ 32) (ix2 r k)).toNat < 7)
    (t : Fin cfg0.N) (r : Fin 1024) (o : Fin 24) :
    out0_18 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t)
        (iblk m c 14 t) (iblk m c 15 t) (iblk m c 16 t) (iblk m c 17 t) (ix2 r o)
      = net (m ((c : Thread nD τ).loc main_arg0)) (m ((c : Thread nD τ).loc main_arg1)) hi
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (rowOf t r) o := by
  have hx : ∀ r k, ((iblk m c 1 t : Vec Ideal S1024x5 .i32) (ix2 r k)).toNat < 7 := fun r k => by
    rw [block_xi]; exact hi _ _
  rw [block_entry _ _ _ _ _ _ _ _ _ _ _ _ _ _ _ _ _ _
    (fun k j => (m ((c : Thread nD τ).loc main_arg7) : FVec Ideal ⟨2, ![1064, 23]⟩ .f32) (ix2 j k))
    (fun k j => (block_7 m c t k j).trans (entry_w1x m c k j))
    (fun k j => (block_8 m c t k j).trans (entry_w1loc m c k j))
    (fun k j => (block_9 m c t k j).trans (entry_w1dir m c k j))
    (fun k j => (block_10 m c t k j).trans (entry_w1cnt m c k j))
    (fun k j => (block_11 m c t k j).trans (entry_w1hwy m c k j))
    (fun k j => (block_12 m c t k j).trans (entry_w1dow m c k j))
    (fun r k => Nat.lt_succ_of_lt (hx r k)) r o]
  have hn : ∀ k, ((iblk m c 1 t : Vec Ideal S1024x5 .i32) (ix2 r k)).toNat
      = ((m ((c : Thread nD τ).loc main_arg1) : IVec ⟨2, ![16384, 5]⟩ 32) (ix2 (rowOf t r) k)).toNat :=
    fun k => congrArg BitVec.toNat (block_xi m c t r k)
  unfold net
  refine head_congr (fun j => ?_) ?_ ?_ ?_ ?_
  · refine unit1_congr ?_ ?_ ?_ ?_ ?_ ?_ (fun k => rfl) ?_
    · exact fun k => block_x m c t r k
    · intro e; refine shown_loc m c t _ _ ?_ e; exact hn 0
    · intro e; refine shown_dir m c t _ _ ?_ e; exact hn 1
    · intro e; refine shown_cnt m c t _ _ ?_ e; exact hn 2
    · intro e; refine shown_hwy m c t _ _ ?_ e; exact hn 3
    · intro e; refine shown_dow m c t _ _ ?_ e; exact hn 4
    · exact (block_13 m c t 0 j).trans (entry_b1 m c j)
  · exact fun k j => (block_14 m c t j k).trans (entry_w2 m c j k)
  · exact fun k => (block_15 m c t 0 k).trans (entry_b2 m c k)
  · exact fun k => (block_16 m c t k o).trans (entry_w3 m c k o)
  · exact (block_17 m c t 0 o).trans (entry_b3 m c o)

/-- The result array after the launch. -/
theorem final (hi : ∀ r k, ((m ((c : Thread nD τ).loc main_arg1) : IVec ⟨2, ![16384, 5]⟩ 32) (ix2 r k)).toNat < 7) :
    (dats m 0 c).arrAt 18 cfg0.N = fun i : S16384x24.Idx =>
      net (m ((c : Thread nD τ).loc main_arg0)) (m ((c : Thread nD τ).loc main_arg1)) hi
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (i 0) (i 1) := by
  refine (dats m 0 c).arrAt_eq_of_covers 18 _ (by decide +kernel) fun t hf y => ?_
  blk_simp
  rw [after0_18]
  have h0 : (win0_18.blk t).view.emb y 0 = rowOf t (y 0) := by
    apply Fin.ext; blk_simp [(index_facts t).1.2.2]; exact congrArg (· + (y 0).val) (Nat.mul_comm _ _)
  have h1 : (win0_18.blk t).view.emb y 1 = (y 1 : Fin 24) := by
    apply Fin.ext; blk_simp [(index_facts t).1.2.2]
  rw [h0, h1]
  exact (congrArg _ (eq_ix2 (n0 := 1024) (n1 := 24) y)).trans (stored m c hi t (y 0) (y 1))

end Cert.Mlp

end
-- ==== Proof.Take.lean ====
/- A table lookup as the reference prints it: negative indices are wrapped, the rows gathered, and a row whose index is
   out of range replaced by a filler. With every index between 0 and 6 the result is the plain row of the table. -/
module

public import proofs.«01_k».proof.Proof.Spec
public import proofs.«01_k».proof.Proof.Gen.ReferenceIdeal.Run
public import Idealize.ShloMosaic.Lib.ReduceAll
public import Idealize.ShloMosaic.Lib.Routing.Ops

@[expose] public section

set_option maxRecDepth 16384

noncomputable section

namespace Cert.Mlp

open Idealize.ShloMosaic Cert.ReferenceIdeal Cert.ReferenceIdeal.Gen

/-- An index with its negative values wrapped round the table's `n` rows. -/
def wrapped (n : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 n))) idx

/-- The wrapped indices as a column. -/
def starts (n : BitVec 32) (idx : IVec S16384 32) : IVec S16384x1 32 :=
  broadcastInDim S16384x1 ![0] bcast_S16384_S16384x1_0 (wrapped n idx)

/-- Which of the indices name a row, the last row being `l`. -/
def inside (n l : BitVec 32) (idx : IVec S16384 32) : IVec S16384 1 :=
  Host.reduce IntOp.andi
    (andi (cmpi .sge (starts n idx) (broadcastInDim S16384x1 ![] bcast_S_S16384x1 (constantI S_ 32 0#32)))
      (cmpi .sle (starts n idx) (broadcastInDim S16384x1 ![0, 1] bcast_S1x1_S16384x1_0_1
        (broadcastInDim S1x1 ![1] bcast_S1_S1x1_1 (constantI S1 32 l)))))
    (constantI S_ 1 1#1) reducesTo_S16384x1_S16384_d1 h_S_

/-- The lookup: the gathered rows where the index names a row, the filler elsewhere. -/
def taken {N D : ℕ} (d : GatherDims ⟨2, ![N, D]⟩ S16384x1 ⟨2, ![16384, D]⟩)
    (hb : S16384.BroadcastsInDim ⟨2, ![16384, D]⟩ ![0]) (hs : S_.BroadcastsInDim ⟨2, ![16384, D]⟩ ![]) (n l : BitVec 32)
    (tab : FVec Ideal ⟨2, ![N, D]⟩ .f32) (idx : IVec S16384 32) : FVec Ideal ⟨2, ![16384, D]⟩ .f32 :=
  select (broadcastInDim ⟨2, ![16384, D]⟩ ![0] hb (inside n l idx)) (Host.gather d tab (starts n idx))
    (broadcastInDim ⟨2, ![16384, D]⟩ ![] hs (constant S_ .f32 0x7FC00000#32))

/-- Indices that are not negative are left as they are. -/
theorem wrapped_eq (n : BitVec 32) (idx : IVec S16384 32) (hi : ∀ r, (idx (ix1 r)).toNat < 7) : wrapped n idx = idx := by
  funext j
  rw [eq_ix1 j]
  have h : IntOp.cmpi .slt (idx (ix1 (j 0))) 0#32 ≠ 1#1 := fun h => by
    have h7 := hi (j 0)
    have := (StableHlo.Predicate.slt_iff_toNat (by omega) (by decide)).1 h
    simp at this
  exact Scalar.select_of_ne_one h _ _

/-- The starting row of each lookup. -/
theorem starts_apply (n : BitVec 32) (idx : IVec S16384 32) (hi : ∀ r, (idx (ix1 r)).toNat < 7) (r : Fin 16384) (z : Fin 1) :
    starts n idx (ix2 r z) = idx (ix1 r) := by
  unfold starts
  rw [wrapped_eq n idx hi]
  pointwise

/-- Every index between 0 and 6 names a row of a table with at least seven. -/
theorem inside_eq (n l : BitVec 32) (idx : IVec S16384 32) (hi : ∀ r, (idx (ix1 r)).toNat < 7) (hl : 6 ≤ l.toNat)
    (hl' : l.toNat < 2 ^ 31) : inside n l idx = fun _ => 1#1 := by
  funext j
  refine Host.reduce_andi_one _ _ _ _ _ rfl fun i => ?_
  rw [eq_ix2 (n0 := 16384) (n1 := 1) i]
  have h7 := hi (i 0)
  have hs := starts_apply n idx hi (i 0) (i 1)
  refine IntOp.andi_eq_one.2 ⟨?_, ?_⟩
  · show IntOp.cmpi .sge (starts n idx (ix2 (i 0) (i 1))) 0#32 = 1#1
    rw [hs]
    exact (StableHlo.Predicate.sge_iff_toNat (by omega) (by decide)).2 (by simp)
  · show IntOp.cmpi .sle (starts n idx (ix2 (i 0) (i 1))) l = 1#1
    rw [hs]
    exact (StableHlo.Predicate.sle_iff_toNat (by omega) hl').2 (by omega)

/-- The lookup at an entry: the table's row that the index names. -/
theorem taken_apply {N D : ℕ} (d : GatherDims ⟨2, ![N, D]⟩ S16384x1 ⟨2, ![16384, D]⟩)
    (hoff : d.offsetDims = [1]) (hcoll : d.collapsedSliceDims = [0]) (hob : d.operandBatchingDims = [])
    (hsim : d.startIndexMap = [0]) (hivd : d.indexVectorDim = 1)
    (hb : S16384.BroadcastsInDim ⟨2, ![16384, D]⟩ ![0]) (hs : S_.BroadcastsInDim ⟨2, ![16384, D]⟩ ![]) (n l : BitVec 32)
    (hl : 6 ≤ l.toNat) (hl' : l.toNat < 2 ^ 31) (hN : 7 ≤ N) (hN' : N < 2 ^ 31)
    (tab : FVec Ideal ⟨2, ![N, D]⟩ .f32) (idx : IVec S16384 32) (hi : ∀ r, (idx (ix1 r)).toNat < 7) (r : Fin 16384)
    (e : Fin D) : taken d hb hs n l tab idx (ix2 r e)
      = tab (ix2 ⟨(idx (ix1 r)).toNat, by have := hi r; omega⟩ e) := by
  unfold taken
  rw [inside_eq n l idx hi hl hl']
  refine Eq.trans (b := Host.gather d tab (starts n idx) (ix2 r e)) rfl ?_
  rw [ix2_eq_valueIdx, ix2_eq_valueIdx]
  refine Routing.gather_row d hoff hcoll hob hsim hivd tab (starts n idx) r e ⟨(idx (ix1 r)).toNat, by have := hi r; omega⟩
    ?_ hN'
  rw [← ix2_eq_valueIdx, starts_apply n idx hi]
  simp

end Cert.Mlp

end
-- ==== Proof.Reference.lean ====
/- What the reference computes: entry `(r, o)` of its result is the network's output `o` for row `r`. -/
module

public import proofs.«01_k».proof.Proof.Take

@[expose] public section

set_option maxRecDepth 16384

noncomputable section

namespace Cert.Mlp

open Idealize.ShloMosaic Cert.ReferenceIdeal Cert.ReferenceIdeal.Gen Cert.ReferenceIdeal.Value Idealize.ShloMosaic.TcCoe Idealize.SL.Sem

/-- The logistic function as the reference writes it out. -/
def squash (z : FVec Ideal S16384x1064 .f32) : FVec Ideal S16384x1064 .f32 :=
  Host.divf (broadcastInDim S16384x1064 ![] bcast_S_S16384x1064 (constant S_ .f32 0x3F800000#32))
    (addf (broadcastInDim S16384x1064 ![] bcast_S_S16384x1064 (constant S_ .f32 0x3F800000#32)) (Host.exp (Host.negf z)))

/-- It is the logistic function, entry by entry. -/
theorem squash_apply (z : FVec Ideal S16384x1064 .f32) (r : Fin 16384) (j : Fin 1064) :
    squash z (ix2 r j) = Ideal.logistic (z (ix2 r j)) := by
  pointwise [squash]
  rfl

/-- The column of the indices that starts at column `k`. -/
def column (xi : IVec S16384x5 32) (k : ℕ) (h : S16384x5.Slices ![0, k] S16384x1) : IVec S16384 32 :=
  shapeCast S16384 (extractStridedSlice S16384x1 ![0, k] xi h) shapeCasts_S16384x1_S16384

/-- Its entry `r` is the index array's entry `(r, k)`. -/
theorem column_apply (xi : IVec S16384x5 32) (k : Fin 5) (h : S16384x5.Slices ![0, k.val] S16384x1) (r : Fin 16384) :
    column xi k.val h (ix1 r) = xi (ix2 r k) := by
  pointwise [column]

/-- The inputs of the first layer: the five numbers of a row, then the rows taken from the five tables. -/
def inputs (x : FVec Ideal S16384x5 .f32) (loc : FVec Ideal S16384x6 .f32) (dir cnt hwy dow : FVec Ideal S16384x3 .f32) :
    FVec Ideal S16384x23 .f32 :=
  concatenate S16384x23 1 [⟨S16384x5, x⟩, ⟨S16384x18, concatenate S16384x18 1
    [⟨S16384x6, loc⟩, ⟨S16384x3, dir⟩, ⟨S16384x3, cnt⟩, ⟨S16384x3, hwy⟩, ⟨S16384x3, dow⟩]
      concatenates_S16384x6_S16384x3_S16384x3_S16384x3_S16384x3_S16384x18_d1⟩] concatenates_S16384x5_S16384x18_S16384x23_d1

/-- Group 1 of the inputs: entries 0 to 4 of a row are `x`. -/
theorem inputs_x (x : FVec Ideal S16384x5 .f32) (loc : FVec Ideal S16384x6 .f32)
    (dir cnt hwy dow : FVec Ideal S16384x3 .f32) (r : Fin 16384) (k : Fin 5) :
    inputs x loc dir cnt hwy dow (ix2 r ⟨k.val, by omega⟩) = x (ix2 r k) := by
  pointwise [inputs]

/-- Group 2 of the inputs: entries 5 to 10 of a row are `loc`. -/
theorem inputs_loc (x : FVec Ideal S16384x5 .f32) (loc : FVec Ideal S16384x6 .f32)
    (dir cnt hwy dow : FVec Ideal S16384x3 .f32) (r : Fin 16384) (k : Fin 6) :
    inputs x loc dir cnt hwy dow (ix2 r ⟨5 + k.val, by omega⟩) = loc (ix2 r k) := by
  pointwise [inputs]

/-- Group 3 of the inputs: entries 11 to 13 of a row are `dir`. -/
theorem inputs_dir (x : FVec Ideal S16384x5 .f32) (loc : FVec Ideal S16384x6 .f32)
    (dir cnt hwy dow : FVec Ideal S16384x3 .f32) (r : Fin 16384) (k : Fin 3) :
    inputs x loc dir cnt hwy dow (ix2 r ⟨11 + k.val, by omega⟩) = dir (ix2 r k) := by
  pointwise [inputs]
  rw [dif_neg (by omega), dif_neg (by omega), dif_pos (by omega)]
  congr 1; congr 1; exact Fin.ext (by simp; try omega)

/-- Group 4 of the inputs: entries 14 to 16 of a row are `cnt`. -/
theorem inputs_cnt (x : FVec Ideal S16384x5 .f32) (loc : FVec Ideal S16384x6 .f32)
    (dir cnt hwy dow : FVec Ideal S16384x3 .f32) (r : Fin 16384) (k : Fin 3) :
    inputs x loc dir cnt hwy dow (ix2 r ⟨14 + k.val, by omega⟩) = cnt (ix2 r k) := by
  pointwise [inputs]
  rw [dif_neg (by omega), dif_neg (by omega), dif_neg (by omega), dif_pos (by omega)]
  congr 1; congr 1; exact Fin.ext (by simp; try omega)

/-- Group 5 of the inputs: entries 17 to 19 of a row are `hwy`. -/
theorem inputs_hwy (x : FVec Ideal S16384x5 .f32) (loc : FVec Ideal S16384x6 .f32)
    (dir cnt hwy dow : FVec Ideal S16384x3 .f32) (r : Fin 16384) (k : Fin 3) :
    inputs x loc dir cnt hwy dow (ix2 r ⟨17 + k.val, by omega⟩) = hwy (ix2 r k) := by
  pointwise [inputs]
  rw [dif_neg (by omega), dif_neg (by omega), dif_neg (by omega), dif_neg (by omega), dif_pos (by omega)]
  congr 1; congr 1; exact Fin.ext (by simp; try omega)

/-- Group 6 of the inputs: entries 20 to 22 of a row are `dow`. -/
theorem inputs_dow (x : FVec Ideal S16384x5 .f32) (loc : FVec Ideal S16384x6 .f32)
    (dir cnt hwy dow : FVec Ideal S16384x3 .f32) (r : Fin 16384) (k : Fin 3) :
    inputs x loc dir cnt hwy dow (ix2 r ⟨20 + k.val, by omega⟩) = dow (ix2 r k) := by
  pointwise [inputs]
  rw [dif_neg (by omega), dif_neg (by omega), dif_neg (by omega), dif_neg (by omega), dif_neg (by omega)]
  congr 1; congr 1; exact Fin.ext (by simp; try omega)

/-- The first layer: the inputs times the transposed weights, plus the bias. -/
def layer1 (v : FVec Ideal S16384x23 .f32) (w : FVec Ideal S1064x23 .f32) (b : FVec Ideal S1064 .f32) :
    FVec Ideal S16384x1064 .f32 :=
  addf (Host.dotGeneral dot_S16384x23_S23x1064_S16384x1064_1_0_0_1_n_n none v
      (transpose S23x1064 [1, 0] w transposes_S1064x23_S23x1064_1_0))
    (broadcastInDim S16384x1064 ![0, 1] bcast_S1x1064_S16384x1064_0_1 (broadcastInDim S1x1064 ![1] bcast_S1064_S1x1064_1 b))

/-- The second layer. -/
def layer2 (v : FVec Ideal S16384x1064 .f32) (w : FVec Ideal S1064x1064 .f32) (b : FVec Ideal S1064 .f32) :
    FVec Ideal S16384x1064 .f32 :=
  addf (Host.dotGeneral dot_S16384x1064_S1064x1064_S16384x1064_1_0_0_1_n_n none v
      (transpose S1064x1064 [1, 0] w transposes_S1064x1064_S1064x1064_1_0))
    (broadcastInDim S16384x1064 ![0, 1] bcast_S1x1064_S16384x1064_0_1 (broadcastInDim S1x1064 ![1] bcast_S1064_S1x1064_1 b))

/-- The third layer. -/
def layer3 (v : FVec Ideal S16384x1064 .f32) (w : FVec Ideal S24x1064 .f32) (b : FVec Ideal S24 .f32) :
    FVec Ideal S16384x24 .f32 :=
  addf (Host.dotGeneral dot_S16384x1064_S1064x24_S16384x24_1_0_0_1_n_n none v
      (transpose S1064x24 [1, 0] w transposes_S24x1064_S1064x24_1_0))
    (broadcastInDim S16384x24 ![0, 1] bcast_S1x24_S16384x24_0_1 (broadcastInDim S1x24 ![1] bcast_S24_S1x24_1 b))

/-- The first layer at an entry: a sum over the 23 inputs of the row. -/
theorem layer1_apply (v : FVec Ideal S16384x23 .f32) (w : FVec Ideal S1064x23 .f32) (b : FVec Ideal S1064 .f32)
    (r : Fin 16384) (j : Fin 1064) :
    layer1 v w b (ix2 r j) = ((∑ k : Fin 23, v (ix2 r k) * w (ix2 j k)) + b (ix1 j) : EReal) := by
  pointwise [layer1]

/-- The second layer at an entry: a sum over the 1064 units. -/
theorem layer2_apply (v : FVec Ideal S16384x1064 .f32) (w : FVec Ideal S1064x1064 .f32) (b : FVec Ideal S1064 .f32)
    (r : Fin 16384) (j : Fin 1064) :
    layer2 v w b (ix2 r j) = ((∑ k : Fin 1064, v (ix2 r k) * w (ix2 j k)) + b (ix1 j) : EReal) := by
  pointwise [layer2]

/-- The third layer at an entry: a sum over the 1064 units. -/
theorem layer3_apply (v : FVec Ideal S16384x1064 .f32) (w : FVec Ideal S24x1064 .f32) (b : FVec Ideal S24 .f32)
    (r : Fin 16384) (j : Fin 24) :
    layer3 v w b (ix2 r j) = ((∑ k : Fin 1064, v (ix2 r k) * w (ix2 j k)) + b (ix1 j) : EReal) := by
  pointwise [layer3]

/-- The whole reference, from its thirteen arguments. -/
def outputs (x : FVec Ideal S16384x5 .f32) (xi : IVec S16384x5 32) (loc : FVec Ideal S1000000x6 .f32)
    (dir : FVec Ideal S8x3 .f32) (cnt : FVec Ideal S64x3 .f32) (hwy : FVec Ideal S512x3 .f32) (dow : FVec Ideal S7x3 .f32)
    (w1 : FVec Ideal S1064x23 .f32) (b1 : FVec Ideal S1064 .f32) (w2 : FVec Ideal S1064x1064 .f32)
    (b2 : FVec Ideal S1064 .f32) (w3 : FVec Ideal S24x1064 .f32) (b3 : FVec Ideal S24 .f32) : FVec Ideal S16384x24 .f32 :=
  Host.expm1 (layer3 (squash (layer2 (squash (layer1 (inputs x
    (taken gather_S1000000x6_S16384x1_S16384x6_1_0_n_n_0_1_16 bcast_S16384_S16384x6_0 bcast_S_S16384x6 1000000#32 999999#32
      loc (column xi 0 slices_S16384x5_S16384x1_0_0))
    (taken gather_S8x3_S16384x1_S16384x3_1_0_n_n_0_1_13 bcast_S16384_S16384x3_0 bcast_S_S16384x3 8#32 7#32
      dir (column xi 1 slices_S16384x5_S16384x1_0_1))
    (taken gather_S64x3_S16384x1_S16384x3_1_0_n_n_0_1_13 bcast_S16384_S16384x3_0 bcast_S_S16384x3 64#32 63#32
      cnt (column xi 2 slices_S16384x5_S16384x1_0_2))
    (taken gather_S512x3_S16384x1_S16384x3_1_0_n_n_0_1_13 bcast_S16384_S16384x3_0 bcast_S_S16384x3 512#32 511#32
      hwy (column xi 3 slices_S16384x5_S16384x1_0_3))
    (taken gather_S7x3_S16384x1_S16384x3_1_0_n_n_0_1_13 bcast_S16384_S16384x3_0 bcast_S_S16384x3 7#32 6#32
      dow (column xi 4 slices_S16384x5_S16384x1_0_4))) w1 b1)) w2 b2)) w3 b3)

/-- The reference run's result is that function of its arguments. -/
theorem res_eq (m : (ℓ : Loc nD τ sig) → Buf (Elt Ideal) ℓ) (c : Dev nD) :
    res_main_v44 m c = outputs (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) := rfl

/-- A lookup by one column of the indices. -/
theorem lookup {N D : ℕ} (d : GatherDims ⟨2, ![N, D]⟩ S16384x1 ⟨2, ![16384, D]⟩)
    (hoff : d.offsetDims = [1]) (hcoll : d.collapsedSliceDims = [0]) (hob : d.operandBatchingDims = [])
    (hsim : d.startIndexMap = [0]) (hivd : d.indexVectorDim = 1)
    (hb : S16384.BroadcastsInDim ⟨2, ![16384, D]⟩ ![0]) (hs : S_.BroadcastsInDim ⟨2, ![16384, D]⟩ ![]) (n l : BitVec 32)
    (hl : 6 ≤ l.toNat) (hl' : l.toNat < 2 ^ 31) (hN : 7 ≤ N) (hN' : N < 2 ^ 31)
    (tab : FVec Ideal ⟨2, ![N, D]⟩ .f32) (xi : IVec S16384x5 32) (hi : ∀ r k, (xi (ix2 r k)).toNat < 7) (k : Fin 5)
    (h : S16384x5.Slices ![0, k.val] S16384x1) (r : Fin 16384) (e : Fin D) :
    taken d hb hs n l tab (column xi k.val h) (ix2 r e)
      = tab (ix2 ⟨(xi (ix2 r k)).toNat, lt_of_lt_of_le (hi r k) hN⟩ e) := by
  rw [taken_apply d hoff hcoll hob hsim hivd hb hs n l hl hl' hN hN' tab _
    (fun r => by rw [column_apply]; exact hi r k) r e]
  simp only [column_apply]

/-- The first layer on the grouped inputs: one unit, group by group. -/
theorem layer1_inputs (x : FVec Ideal S16384x5 .f32) (loc : FVec Ideal S16384x6 .f32)
    (dir cnt hwy dow : FVec Ideal S16384x3 .f32) (w : FVec Ideal S1064x23 .f32) (b : FVec Ideal S1064 .f32)
    (r : Fin 16384) (j : Fin 1064) :
    layer1 (inputs x loc dir cnt hwy dow) w b (ix2 r j)
      = unit1 (fun k => x (ix2 r k)) (fun e => loc (ix2 r e)) (fun e => dir (ix2 r e)) (fun e => cnt (ix2 r e))
          (fun e => hwy (ix2 r e)) (fun e => dow (ix2 r e)) (fun k => w (ix2 j k)) (b (ix1 j)) := by
  rw [layer1_apply]
  have key := sum_groups (fun k => (inputs x loc dir cnt hwy dow (ix2 r k) * w (ix2 j k) : EReal))
  simp only [inputs_x, inputs_loc, inputs_dir, inputs_cnt, inputs_hwy, inputs_dow] at key
  rw [key]
  rfl

/-- Entry `(r, o)` of the reference is the network's output `o` for row `r`. -/
theorem outputs_apply (x : FVec Ideal S16384x5 .f32) (xi : IVec S16384x5 32) (hi : ∀ r k, (xi (ix2 r k)).toNat < 7)
    (loc : FVec Ideal S1000000x6 .f32)
    (dir : FVec Ideal S8x3 .f32) (cnt : FVec Ideal S64x3 .f32) (hwy : FVec Ideal S512x3 .f32) (dow : FVec Ideal S7x3 .f32)
    (w1 : FVec Ideal S1064x23 .f32) (b1 : FVec Ideal S1064 .f32) (w2 : FVec Ideal S1064x1064 .f32)
    (b2 : FVec Ideal S1064 .f32) (w3 : FVec Ideal S24x1064 .f32) (b3 : FVec Ideal S24 .f32) (r : Fin 16384) (o : Fin 24) :
    outputs x xi loc dir cnt hwy dow w1 b1 w2 b2 w3 b3 (ix2 r o)
      = net x xi hi loc dir cnt hwy dow w1 b1 w2 b2 w3 b3 r o := by
  refine Eq.trans (b := (Ideal.exp (layer3 _ w3 b3 (ix2 r o)) - 1 : EReal)) rfl ?_
  rw [layer3_apply]
  unfold net head
  simp only [squash_apply, layer2_apply, layer1_inputs]
  have h_loc := lookup gather_S1000000x6_S16384x1_S16384x6_1_0_n_n_0_1_16 rfl rfl rfl rfl rfl
    bcast_S16384_S16384x6_0 bcast_S_S16384x6 1000000#32 999999#32 (by decide) (by decide) (by decide) (by decide) loc xi hi 0
    slices_S16384x5_S16384x1_0_0 r
  have h_dir := lookup gather_S8x3_S16384x1_S16384x3_1_0_n_n_0_1_13 rfl rfl rfl rfl rfl
    bcast_S16384_S16384x3_0 bcast_S_S16384x3 8#32 7#32 (by decide) (by decide) (by decide) (by decide) dir xi hi 1
    slices_S16384x5_S16384x1_0_1 r
  have h_cnt := lookup gather_S64x3_S16384x1_S16384x3_1_0_n_n_0_1_13 rfl rfl rfl rfl rfl
    bcast_S16384_S16384x3_0 bcast_S_S16384x3 64#32 63#32 (by decide) (by decide) (by decide) (by decide) cnt xi hi 2
    slices_S16384x5_S16384x1_0_2 r
  have h_hwy := lookup gather_S512x3_S16384x1_S16384x3_1_0_n_n_0_1_13 rfl rfl rfl rfl rfl
    bcast_S16384_S16384x3_0 bcast_S_S16384x3 512#32 511#32 (by decide) (by decide) (by decide) (by decide) hwy xi hi 3
    slices_S16384x5_S16384x1_0_3 r
  have h_dow := lookup gather_S7x3_S16384x1_S16384x3_1_0_n_n_0_1_13 rfl rfl rfl rfl rfl
    bcast_S16384_S16384x3_0 bcast_S_S16384x3 7#32 6#32 (by decide) (by decide) (by decide) (by decide) dow xi hi 4
    slices_S16384x5_S16384x1_0_4 r
  exact congrArg (fun z => head z (fun k j => w2 (ix2 k j)) (fun k => b2 (ix1 k)) (fun k => w3 (ix2 o k)) (b3 (ix1 o)))
    (funext fun j => unit1_congr (x := fun k => x (ix2 r k)) (w := fun k => w1 (ix2 j k)) (b := b1 (ix1 j))
      (fun _ => rfl) h_loc h_dir h_cnt h_hwy h_dow (fun _ => rfl) rfl)

end Cert.Mlp

end
-- ==== Proof.Equation.lean ====
/- The equation: from memories that agree on the arguments, with every index from 0 to 6, the array the kernel leaves is the
   array the reference computes. -/
module

public import proofs.«01_k».proof.Proof.Array
public import proofs.«01_k».proof.Proof.Reference

@[expose] public section

set_option maxRecDepth 16384

noncomputable section

namespace Cert.Mlp

open Idealize.ShloMosaic Idealize.SL.Sem

/-- The reference as one array: entry `i` is the network's output `i 1` for row `i 0`. -/
theorem outputs_eq (x : FVec Ideal ⟨2, ![16384, 5]⟩ .f32) (xi : IVec ⟨2, ![16384, 5]⟩ 32)
    (hi : ∀ r k, (xi (ix2 r k)).toNat < 7) (loc : FVec Ideal ⟨2, ![1000000, 6]⟩ .f32) (dir : FVec Ideal ⟨2, ![8, 3]⟩ .f32)
    (cnt : FVec Ideal ⟨2, ![64, 3]⟩ .f32) (hwy : FVec Ideal ⟨2, ![512, 3]⟩ .f32) (dow : FVec Ideal ⟨2, ![7, 3]⟩ .f32)
    (w1 : FVec Ideal ⟨2, ![1064, 23]⟩ .f32) (b1 : FVec Ideal ⟨1, ![1064]⟩ .f32) (w2 : FVec Ideal ⟨2, ![1064, 1064]⟩ .f32)
    (b2 : FVec Ideal ⟨1, ![1064]⟩ .f32) (w3 : FVec Ideal ⟨2, ![24, 1064]⟩ .f32) (b3 : FVec Ideal ⟨1, ![24]⟩ .f32) :
    outputs x xi loc dir cnt hwy dow w1 b1 w2 b2 w3 b3
      = fun i : Cert.KernelIdeal.S16384x24.Idx => net x xi hi loc dir cnt hwy dow w1 b1 w2 b2 w3 b3 (i 0) (i 1) :=
  funext fun i => (congrArg _ (eq_ix2 (n0 := 16384) (n1 := 24) i)).trans
    (outputs_apply x xi hi loc dir cnt hwy dow w1 b1 w2 b2 w3 b3 (i 0) (i 1))

/-- The kernel's result array is the reference's, on each device. -/
theorem equation (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hi : ∀ r k, ((m ((c.tc : Thread Cert.KernelIdeal.nD Cert.KernelIdeal.τ).loc Cert.KernelIdeal.main_arg1) :
      IVec ⟨2, ![16384, 5]⟩ 32) (ix2 r k)).toNat < 7)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12)) :
    Cert.ReferenceIdeal.Value.res_main_v44 m' c
      = (Cert.KernelIdeal.Gen.dats m 0 c).arrAt 18 Cert.KernelIdeal.cfg0.N := by
  rw [res_eq, h0, h1, h2, h3, h4, h5, h6, h7, h8, h9, h10, h11, h12]
  exact (outputs_eq _ _ hi _ _ _ _ _ _ _ _ _ _ _).trans (final m c hi).symm

end Cert.Mlp

end
-- ==== Proof.lean ====
/- The certificate: both kernels and the reference run and keep their arguments, and the kernel's result, over exact
   arithmetic, is the reference's whenever every index is from 0 to 6. The mathematics is in the modules it imports
   (what one block computes, what the array holds, what the reference computes, the equation); here it is assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Range
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments as they were, and ends with every semaphore counter at zero: it has none. -/
theorem reference_frame : quiescent_ReferenceIdeal := fun m g _ =>
  (θ_run _ _ _).mono (fun r h => ⟨fun c => (h c).2, sem_eq_zero_of_no_sems (by decide) r.2⟩)
    (Cert.ReferenceIdeal.Value.run m g)

/-- The precondition in force on the kernel's memory puts every index between 0 and 6. -/
theorem in_range (m : (ℓ : Loc Cert.KernelIdeal.nD Cert.KernelIdeal.τ Cert.KernelIdeal.sig) → Buf (Elt Ideal) ℓ)
    (hpre : Pre_KernelIdeal_indices_in_range (hPre_indices_in_range := Cert.Mlp.range_facts) m)
    (c : Dev Cert.KernelIdeal.nD) (r : Fin 16384) (k : Fin 5) :
    ((m ((c.tc : Thread Cert.KernelIdeal.nD Cert.KernelIdeal.τ).loc Cert.KernelIdeal.main_arg1) :
      IVec ⟨2, ![16384, 5]⟩ 32) (ix2 r k)).toNat < 7 :=
  haveI := Cert.Mlp.range_facts
  Cert.Mlp.range_of_pre _ _ _ _ _ _ _ _ _ _ _ _ _ (hpre c) r k

/-- Kernel and reference, over exact arithmetic, end with the same array. -/
theorem value : algebraic_KernelIdeal_ReferenceIdeal_pre_indices_in_range (hPre_indices_in_range := Cert.Mlp.range_facts) :=
  fun m g m' g' hpre hagree =>
    ⟨fun c => (Cert.KernelIdeal.Gen.dats m 0 c).arrAt 18 Cert.KernelIdeal.cfg0.N,
      Cert.KernelIdeal.Value.run_blocks m g,
      (θ_run _ _ _).mono (fun r h c => by
        obtain ⟨h0, h1, h2, h3, h4, h5, h6, h7, h8, h9, h10, h11, h12⟩ := hagree c
        exact ⟨(h c).1.trans (Cert.Mlp.equation m m' c (in_range m hpre c) h0 h1 h2 h3 h4 h5 h6 h7 h8 h9 h10 h11 h12), (h c).2⟩)
        (Cert.ReferenceIdeal.Value.run m' g')⟩

/-- Everything the certificate claims. -/
theorem claim : Cert.Claim :=
  ⟨Cert.Kernel.Gen.facts, Cert.KernelIdeal.Gen.facts, Cert.ReferenceIdeal.Gen.facts, Cert.Mlp.range_facts,
    fun m g _ => Cert.Kernel.Gen.frame m g, fun m g _ => Cert.KernelIdeal.Gen.frame m g,
    fun m g _ => Cert.KernelIdeal.Gen.frame m g, reference_frame, fun m g _ => reference_frame m g trivial, trivial, value⟩

end Cert.Proof

end
